-- ==== Defs.lean ====
def Pre_Kernel (m : (ℓ : Loc Cert.Kernel.nD Cert.Kernel.τ Cert.Kernel.sig) → Buf (Elt Bits) ℓ) : Prop :=
  True

def Pre_Kernel_unique_nearest [hPre_unique_nearest : Cert.Pre_unique_nearest.Facts] (m : (ℓ : Loc Cert.Kernel.nD Cert.Kernel.τ Cert.Kernel.sig) → Buf (Elt Bits) ℓ) : Prop :=
  ∀ c : Dev Cert.Kernel.nD,
    (Cert.Pre_unique_nearest.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_unique_nearest : Cert.Pre_unique_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_unique_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unique_nearest [hPre_unique_nearest : Cert.Pre_unique_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unique_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_unique_nearest [hKernel : Cert.Kernel.Facts] [hPre_unique_nearest : Cert.Pre_unique_nearest.Facts] : Prop :=
  ∀ (m : (ℓ : Loc Cert.Kernel.nD Cert.Kernel.τ Cert.Kernel.sig) → Buf (Elt Bits) ℓ) (g : Dev Cert.Kernel.nD → PrngReg), Pre_Kernel_unique_nearest m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_unique_nearest : Cert.Pre_unique_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unique_nearest [hReferenceIdeal : Cert.ReferenceIdeal.Facts] [hPre_unique_nearest : Cert.Pre_unique_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unique_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_unique_nearest : Cert.Pre_unique_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unique_nearest : Cert.Pre_unique_nearest.Facts),
    quiescent_Kernel (hKernel := hKernel)
    ∧ quiescent_Kernel_pre_unique_nearest (hKernel := hKernel) (hPre_unique_nearest := hPre_unique_nearest)
    ∧ quiescent_KernelIdeal (hKernelIdeal := hKernelIdeal) (hPre_unique_nearest := hPre_unique_nearest)
    ∧ quiescent_ReferenceIdeal (hReferenceIdeal := hReferenceIdeal)
    ∧ quiescent_ReferenceIdeal_pre_unique_nearest (hReferenceIdeal := hReferenceIdeal) (hPre_unique_nearest := hPre_unique_nearest)
    ∧ preserves_Kernel_KernelIdeal
    ∧ algebraic_KernelIdeal_ReferenceIdeal (hKernelIdeal := hKernelIdeal) (hReferenceIdeal := hReferenceIdeal) (hPre_unique_nearest := hPre_unique_nearest)
-- ==== Pre_unique_nearest.lean ====
abbrev S64x1024x32 : Shape := ⟨3, ![64, 1024, 32]⟩
abbrev S512x32 : Shape := ⟨2, ![512, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩
abbrev S65536x512 : Shape := ⟨2, ![65536, 512]⟩
abbrev S32x512 : Shape := ⟨2, ![32, 512]⟩

class Facts : Prop where
  shapeCasts_S64x1024x32_S65536x32 : S64x1024x32.ShapeCasts S65536x32
  reducesTo_S65536x32_S65536_d1 : S65536x32.ReducesTo [1] S65536
  h_S_ : 0 < S_.numel
  bcast_S65536_S65536x1_0 : S65536.BroadcastsInDim S65536x1 (![0] : Fin 1 → Fin S65536x1.rank)
  reducesTo_S512x32_S512_d1 : S512x32.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  transposes_S512x32_S32x512_1_0 : S512x32.Transposes [1, 0] S32x512
  bcast_S_S65536x512 : S_.BroadcastsInDim S65536x512 (![] : Fin 0 → Fin S65536x512.rank)
  reducesTo_S65536x512_S65536_d1 : S65536x512.ReducesTo [1] S65536
  natLt_1_32 : 1 < 32
  bcast_S_S64x1024x32 : S_.BroadcastsInDim S64x1024x32 (![] : Fin 0 → Fin S64x1024x32.rank)
  reducesTo_S64x1024x32_S_d0_1_2 : S64x1024x32.ReducesTo [0, 1, 2] S_
  bcast_S_S512x32 : S_.BroadcastsInDim S512x32 (![] : Fin 0 → Fin S512x32.rank)
  reducesTo_S512x32_S_d0_1 : S512x32.ReducesTo [0, 1] S_
  bcast_S_S65536 : S_.BroadcastsInDim S65536 (![] : Fin 0 → Fin S65536.rank)
  dot_S65536x32_S32x512_S65536x512_1_0_0_1_n_n_wf : DotDims.WF S65536x32 S32x512 S65536x512 [1] [0] [0] [1] [] []

variable [Facts]

def dot_S65536x32_S32x512_S65536x512_1_0_0_1_n_n : DotDims S65536x32 S32x512 S65536x512 where
  lhsContracting := [1]
  rhsContracting := [0]
  lhsNonContracting := [0]
  rhsNonContracting := [1]
  lhsBatch := []
  rhsBatch := []
  wf := dot_S65536x32_S32x512_S65536x512_1_0_0_1_n_n_wf
def fn_part1 {F : FTy → Type} [FloatOps F] (main_arg0 : FVec F S64x1024x32 .f32) (main_arg1 : FVec F S512x32 .f32) (main_v19 : IVec S65536x512 32) : IVec S65536 1 :=
  let main_c : IVec S_ 32 := constantI S_ 32 0#32
  let main_v20 : IVec S65536 32 := (fun x v => Host.reduce IntOp.addi x v reducesTo_S65536x512_S65536_d1 h_S_) main_v19 main_c
  let main_v21 : FVec F S64x1024x32 .f32 := Host.absf main_arg0
  let main_cst_3 : FVec F S_ .f32 := constant S_ .f32 0x7F800000#32
  let main_v22 : FVec F S64x1024x32 .f32 := broadcastInDim S64x1024x32 ![] bcast_S_S64x1024x32 main_cst_3
  let main_v23 : IVec S64x1024x32 1 := cmpf .olt main_v21 main_v22
  let main_c_4 : IVec S_ 1 := constantI S_ 1 1#1
  let main_v24 : IVec S_ 1 := (fun x v => Host.reduce IntOp.andi x v reducesTo_S64x1024x32_S_d0_1_2 h_S_) main_v23 main_c_4
  let main_v25 : FVec F S512x32 .f32 := Host.absf main_arg1
  let main_cst_5 : FVec F S_ .f32 := constant S_ .f32 0x7F800000#32
  let main_v26 : FVec F S512x32 .f32 := broadcastInDim S512x32 ![] bcast_S_S512x32 main_cst_5
  let main_v27 : IVec S512x32 1 := cmpf .olt main_v25 main_v26
  let main_c_6 : IVec S_ 1 := constantI S_ 1 1#1
  let main_v28 : IVec S_ 1 := (fun x v => Host.reduce IntOp.andi x v reducesTo_S512x32_S_d0_1 h_S_) main_v27 main_c_6
  let main_v29 : IVec S_ 1 := andi main_v24 main_v28
  let main_c_7 : IVec S_ 32 := constantI S_ 32 1#32
  let main_v30 : IVec S65536 32 := broadcastInDim S65536 ![] bcast_S_S65536 main_c_7
  let main_v31 : IVec S65536 1 := cmpi .eq main_v20 main_v30
  let main_v32 : IVec S65536 1 := broadcastInDim S65536 ![] bcast_S_S65536 main_v29
  let main_v33 : IVec S65536 1 := andi main_v31 main_v32
  main_v33

def fn {F : FTy → Type} [FloatOps F] (main_arg0 : FVec F S64x1024x32 .f32) (main_arg1 : FVec F S512x32 .f32) : IVec S65536 1 :=
  let main_v0 : FVec F S65536x32 .f32 := shapeCast S65536x32 main_arg0 shapeCasts_S64x1024x32_S65536x32
  let main_v1 : FVec F S65536x32 .f32 := mulf main_v0 main_v0
  let main_cst : FVec F S_ .f32 := constant S_ .f32 0x00000000#32
  let main_v2 : FVec F S65536 .f32 := (fun x v => Host.reduceAdd x v reducesTo_S65536x32_S65536_d1 h_S_) main_v1 main_cst
  let main_v3 : FVec F S65536x1 .f32 := broadcastInDim S65536x1 ![0] bcast_S65536_S65536x1_0 main_v2
  let main_v4 : FVec F S512x32 .f32 := mulf main_arg1 main_arg1
  let main_cst_0 : FVec F S_ .f32 := constant S_ .f32 0x00000000#32
  let main_v5 : FVec F S512 .f32 := (fun x v => Host.reduceAdd x v reducesTo_S512x32_S512_d1 h_S_) main_v4 main_cst_0
  let main_v6 : FVec F S1x512 .f32 := broadcastInDim S1x512 ![1] bcast_S512_S1x512_1 main_v5
  let main_v7 : FVec F S65536x512 .f32 := broadcastInDim S65536x512 ![0, 1] bcast_S65536x1_S65536x512_0_1 main_v3
  let main_v8 : FVec F S65536x512 .f32 := broadcastInDim S65536x512 ![0, 1] bcast_S1x512_S65536x512_0_1 main_v6
  let main_v9 : FVec F S65536x512 .f32 := addf main_v7 main_v8
  let main_v10 : FVec F S32x512 .f32 := (transpose S32x512 [1, 0] · transposes_S512x32_S32x512_1_0) main_arg1
  let main_v11 : FVec F S65536x512 .f32 := (fun l r => Host.dotGeneral dot_S65536x32_S32x512_S65536x512_1_0_0_1_n_n none l r) main_v0 main_v10
  let main_cst_1 : FVec F S_ .f32 := constant S_ .f32 0x40000000#32
  let main_v12 : FVec F S65536x512 .f32 := broadcastInDim S65536x512 ![] bcast_S_S65536x512 main_cst_1
  let main_v13 : FVec F S65536x512 .f32 := mulf main_v12 main_v11
  let main_v14 : FVec F S65536x512 .f32 := subf main_v9 main_v13
  let main_cst_2 : FVec F S_ .f32 := constant S_ .f32 0x7F800000#32
  let main_v15 : FVec F S65536 .f32 := (fun x v => Host.reduce FloatOps.minimumf x v reducesTo_S65536x512_S65536_d1 h_S_) main_v14 main_cst_2
  let main_v16 : FVec F S65536x1 .f32 := broadcastInDim S65536x1 ![0] bcast_S65536_S65536x1_0 main_v15
  let main_v17 : FVec F S65536x512 .f32 := broadcastInDim S65536x512 ![0, 1] bcast_S65536x1_S65536x512_0_1 main_v16
  let main_v18 : IVec S65536x512 1 := cmpf .oeq main_v14 main_v17
  let main_v19 : IVec S65536x512 32 := (extui 32 · natLt_1_32) main_v18
  fn_part1 (F := F) main_arg0 main_arg1 main_v19
-- ==== Kernel.lean ====
abbrev S64x1024x32 : Shape := ⟨3, ![64, 1024, 32]⟩
abbrev S512x32 : Shape := ⟨2, ![512, 32]⟩
abbrev S65536x32 : Shape := ⟨2, ![65536, 32]⟩
abbrev S_ : Shape := ⟨0, ![]⟩
abbrev S512 : Shape := ⟨1, ![512]⟩
abbrev S512x1 : Shape := ⟨2, ![512, 1]⟩
abbrev S64x1024 : Shape := ⟨2, ![64, 1024]⟩
abbrev S16x1024x32 : Shape := ⟨3, ![16, 1024, 32]⟩
abbrev S16x1024 : Shape := ⟨2, ![16, 1024]⟩
abbrev S1x1024x32 : Shape := ⟨3, ![1, 1024, 32]⟩
abbrev S1024x32 : Shape := ⟨2, ![1024, 32]⟩
abbrev S512x1024 : Shape := ⟨2, ![512, 1024]⟩
abbrev S1024 : Shape := ⟨1, ![1024]⟩
abbrev S1x1024 : Shape := ⟨2, ![1, 1024]⟩

abbrev nBuf : Space → Nat
  | .hbm => 12
  | .vmem => 6
  | .smem => 0
  | _ => 0

abbrev bufTy : (tb : Table) → Fin (tcTables nBuf tb) → BufTy
  | .hbm, ⟨0, _⟩ => ⟨S64x1024x32, .f32⟩
  | .hbm, ⟨1, _⟩ => ⟨S512x32, .f32⟩
  | .hbm, ⟨2, _⟩ => ⟨S65536x32, .f32⟩
  | .hbm, ⟨3, _⟩ => ⟨S64x1024x32, .f32⟩
  | .hbm, ⟨4, _⟩ => ⟨S_, .f32⟩
  | .hbm, ⟨5, _⟩ => ⟨S512x32, .f32⟩
  | .hbm, ⟨6, _⟩ => ⟨S512x32, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S64x1024, .i32⟩
  | .local _ .vmem, ⟨0, _⟩ => ⟨S16x1024x32, .f32⟩
  | .local _ .vmem, ⟨1, _⟩ => ⟨S16x1024x32, .f32⟩
  | .local _ .vmem, ⟨2, _⟩ => ⟨S512x32, .f32⟩
  | .local _ .vmem, ⟨3, _⟩ => ⟨S512x1, .f32⟩
  | .local _ .vmem, ⟨4, _⟩ => ⟨S16x1024, .i32⟩
  | .local _ .vmem, ⟨5, _⟩ => ⟨S16x1024, .i32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x1024x32 : Shape := ⟨3, ![64, 1024, 32]⟩
abbrev S512x32 : Shape := ⟨2, ![512, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩
abbrev S65536x512 : Shape := ⟨2, ![65536, 512]⟩
abbrev S32x512 : Shape := ⟨2, ![32, 512]⟩
abbrev S64x1024 : Shape := ⟨2, ![64, 1024]⟩

abbrev nBuf : Space → Nat
  | .hbm => 30
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S512x32, .f32⟩
  | .hbm, ⟨2, _⟩ => ⟨S65536x32, .f32⟩
  | .hbm, ⟨3, _⟩ => ⟨S65536x32, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S32x512, .f32⟩
  | .hbm, ⟨15, _⟩ => ⟨S65536x512, .f32⟩
  | .hbm, ⟨16, _⟩ => ⟨S_, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .i32⟩
  | .hbm, ⟨25, _⟩ => ⟨S_, .f32⟩
  | .hbm, ⟨26, _⟩ => ⟨S_, .i32⟩
  | .hbm, ⟨27, _⟩ => ⟨S65536, .f32⟩
  | .hbm, ⟨28, _⟩ => ⟨S65536, .i32⟩
  | .hbm, ⟨29, _⟩ => ⟨S64x1024, .i32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.Least.lean ====
/-
  The position of the first least entry of a finite sequence of extended reals, and the two operations that compute
  it: an index reduction along the first axis of a matrix, and a fold of (value, index) pairs that keeps the smaller
  value and, between equal values, the smaller index. Nothing here is about a particular program.
-/
module

public import Idealize.ShloMosaic.Lib.Pointwise
public import Idealize.ShloMosaic.Lib.StableHlo.Predicate

@[expose] public section

noncomputable section

namespace Cert.Least

open Idealize.ShloMosaic

/-- `k` is the position of the first least entry of `f`: every entry is greater, or it is equal and not earlier. -/
def IsFirst {n : ℕ} (f : Fin n → EReal) (k : Fin n) : Prop :=
  ∀ k', f k < f k' ∨ f k = f k' ∧ k ≤ k'

/-- A nonempty finite sequence has a first least entry. -/
theorem exists_first {n : ℕ} [NeZero n] (f : Fin n → EReal) : ∃ k, IsFirst f k := by
  obtain ⟨k, -, hk⟩ := Finset.exists_min_image Finset.univ (fun k : Fin n => toLex (f k, k)) ⟨0, Finset.mem_univ _⟩
  exact ⟨k, fun k' => Prod.Lex.toLex_le_toLex.mp (hk k' (Finset.mem_univ _))⟩

/-- There is only one first least entry. -/
theorem IsFirst.unique {n : ℕ} {f : Fin n → EReal} {k l : Fin n} (hk : IsFirst f k) (hl : IsFirst f l) : k = l := by
  rcases hk l with h | ⟨-, h⟩
  · rcases hl k with h' | ⟨h', -⟩
    · exact absurd h (lt_asymm h')
    · exact absurd h (h' ▸ lt_irrefl _)
  · rcases hl k with h' | ⟨-, h'⟩
    · rcases hk l with h'' | ⟨h'', -⟩
      · exact absurd h' (lt_asymm h'')
      · exact absurd h' (h'' ▸ lt_irrefl _)
    · exact le_antisymm h h'

/-- The position of the first least entry. -/
def firstLeast {n : ℕ} [NeZero n] (f : Fin n → EReal) : Fin n := (exists_first f).choose

theorem firstLeast_spec {n : ℕ} [NeZero n] (f : Fin n → EReal) : IsFirst f (firstLeast f) := (exists_first f).choose_spec

/-- A position with the property of the first least entry is it. -/
theorem IsFirst.eq {n : ℕ} [NeZero n] {f : Fin n → EReal} {k : Fin n} (h : IsFirst f k) : firstLeast f = k :=
  (firstLeast_spec f).unique h

/-- Two sequences that order their positions alike have their first least entries at the same position. -/
theorem firstLeast_congr {n : ℕ} [NeZero n] {f g : Fin n → EReal} (h : ∀ k k', f k < f k' ↔ g k < g k') :
    firstLeast f = firstLeast g := by
  refine IsFirst.eq fun k' => ?_
  rcases firstLeast_spec g k' with hl | ⟨he, hle⟩
  · exact .inl ((h _ _).mpr hl)
  · refine .inr ⟨le_antisymm (not_lt.mp fun hlt => ?_) (not_lt.mp fun hlt => ?_), hle⟩
    · exact absurd ((h _ _).mp hlt) (he ▸ lt_irrefl _)
    · exact absurd ((h _ _).mp hlt) (he ▸ lt_irrefl _)

/-! ## The index reduction -/

/-- The least member of a set of numbers, read with a default: a member below every other. -/
theorem min_getD_eq {S : Finset ℕ} {k : ℕ} (hk : k ∈ S) (h : ∀ k' ∈ S, k ≤ k') : S.min.getD 0 = k := by
  have e : S.min = (k : WithTop ℕ) :=
    le_antisymm (Finset.min_le hk) (Finset.le_min fun a ha => WithTop.coe_le_coe.mpr (h a ha))
  rw [e]; rfl

/-- The arg-min reduction along the first axis of a matrix, at a column: the position of the column's first least
    entry. -/
theorem reduceIndex_argMin_first {n0 n1 : ℕ} [NeZero n0] {t : Shape} (h : (⟨2, ![n0, n1]⟩ : Shape).Reduces [0] t)
    (x : (⟨2, ![n0, n1]⟩ : Shape).Idx → EReal) (j : t.Idx) (c : Fin n1)
    (hc : c.val = (j ⟨0, h.lt_r2_a0_0⟩).val) :
    Ideal.reduceIndex .argMin 0 h x j = BitVec.ofNat 32 (firstLeast fun k => x (ix2 k c)).val := by
  have fib (i : (⟨2, ![n0, n1]⟩ : Shape).Idx) : h.drop i = j ↔ ∃ k : Fin n0, ix2 k c = i := by
    have ec : c = ⟨(j ⟨0, h.lt_r2_a0_0⟩).val, Shape.coordLt (j ⟨0, h.lt_r2_a0_0⟩) h.size_r2_a0_0⟩ := Fin.ext hc
    rw [ec]; exact h.fiber_r2_a0 j i
  have sp := firstLeast_spec fun k => x (ix2 k c)
  generalize (firstLeast fun k => x (ix2 k c)) = k at sp
  unfold Ideal.reduceIndex
  refine congrArg (BitVec.ofNat 32) (min_getD_eq ?_ ?_)
  · refine Finset.mem_image.mpr ⟨ix2 k c, ?_, rfl⟩
    refine (@Finset.mem_filter _ _ (_) _ _).mpr ⟨Finset.mem_filter.mpr ⟨Finset.mem_univ _, (fib _).mpr ⟨k, rfl⟩⟩, fun i' hi' => ?_⟩
    obtain ⟨k', rfl⟩ := (fib _).mp (Finset.mem_filter.mp hi').2
    have hle : x (ix2 k c) ≤ x (ix2 k' c) := (sp k').elim le_of_lt fun e => le_of_eq e.1
    simpa using hle
  · intro k' hk'
    obtain ⟨i, hi, rfl⟩ := Finset.mem_image.mp hk'
    obtain ⟨hi, hbeat⟩ := (@Finset.mem_filter _ _ (_) _ _).mp hi
    obtain ⟨k', rfl⟩ := (fib _).mp (Finset.mem_filter.mp hi).2
    have hb := hbeat (ix2 k c) (Finset.mem_filter.mpr ⟨Finset.mem_univ _, (fib _).mpr ⟨k, rfl⟩⟩)
    have hle : x (ix2 k' c) ≤ x (ix2 k c) := by simpa using hb
    rcases sp k' with hl | ⟨-, hl⟩
    · exact absurd hl (not_lt.mpr hle)
    · exact hl

/-! ## The fold of pairs -/

/-- One pair comes before another: its value is smaller, or the values are equal and its index is not greater. -/
def PairLe (p q : EReal × BitVec 32) : Prop := p.1 < q.1 ∨ p.1 = q.1 ∧ p.2.toInt ≤ q.2.toInt

theorem PairLe.refl (p : EReal × BitVec 32) : PairLe p p := .inr ⟨rfl, le_refl _⟩

theorem PairLe.trans {p q r : EReal × BitVec 32} (h : PairLe p q) (h' : PairLe q r) : PairLe p r := by
  rcases h with h | ⟨e, h⟩ <;> rcases h' with h' | ⟨e', h'⟩
  · exact .inl (h.trans h')
  · exact .inl (e' ▸ h)
  · exact .inl (e ▸ h')
  · exact .inr ⟨e.trans e', h.trans h'⟩

/-- A step that keeps the pair that comes first, and the newer one where they are alike. -/
def KeepsFirst (f : EReal × BitVec 32 → EReal × BitVec 32 → EReal × BitVec 32) : Prop :=
  ∀ a b, (a.1 < b.1 ∨ a.1 = b.1 ∧ a.2.toInt < b.2.toInt) ∧ f a b = a ∨ PairLe b a ∧ f a b = b

/-- The fold of such a step over a list, from any pair: the result is the starting pair or a member of the list, and
    comes before the starting pair and every member. -/
theorem foldl_keepsFirst {f : EReal × BitVec 32 → EReal × BitVec 32 → EReal × BitVec 32} (hf : KeepsFirst f) :
    ∀ (L : List (EReal × BitVec 32)) (a : EReal × BitVec 32),
      (L.foldl f a = a ∨ L.foldl f a ∈ L) ∧ PairLe (L.foldl f a) a ∧ ∀ q ∈ L, PairLe (L.foldl f a) q
  | [], a => ⟨.inl rfl, .refl a, fun _ h => absurd h List.not_mem_nil⟩
  | b :: L, a => by
    obtain ⟨hm, hle, hall⟩ := foldl_keepsFirst hf L (f a b)
    rw [List.foldl_cons]
    have step : (f a b = a ∨ f a b = b) ∧ PairLe (f a b) a ∧ PairLe (f a b) b := by
      rcases hf a b with ⟨h, e⟩ | ⟨h, e⟩
      · rw [e]; exact ⟨.inl rfl, .refl a, h.imp id fun h => ⟨h.1, le_of_lt h.2⟩⟩
      · rw [e]; exact ⟨.inr rfl, h, .refl b⟩
    obtain ⟨hs, ha, hb⟩ := step
    refine ⟨?_, hle.trans ha, fun q hq => ?_⟩
    · rcases hm with hm | hm
      · rcases hs with hs | hs
        · exact .inl (hm.trans hs)
        · exact .inr (by rw [hm, hs]; exact List.mem_cons_self)
      · exact .inr (List.mem_cons_of_mem _ hm)
    · rcases List.mem_cons.mp hq with rfl | hq
      · exact hle.trans hb
      · exact hall q hq

/-- The reduction of (value, position) pairs along the second axis of a matrix by such a step, from a pair whose value
    is `⊤`, at a row none of whose entries is `⊤`: its second component is the position of the row's first least
    entry. -/
theorem argReduce_first {n0 n1 : ℕ} [NeZero n1] (hn : n1 < 2 ^ 31) {t u : Shape}
    (h : (⟨2, ![n0, n1]⟩ : Shape).ReducesTo [1] t) (hu : 0 < u.numel)
    {f : EReal × BitVec 32 → EReal × BitVec 32 → EReal × BitVec 32} (hf : KeepsFirst f)
    (x : FVec Ideal (⟨2, ![n0, n1]⟩ : Shape) .f32) (y : IVec (⟨2, ![n0, n1]⟩ : Shape) 32)
    (hy : ∀ (r : Fin n0) (k : Fin n1), y (ix2 r k) = BitVec.ofNat 32 k.val)
    (ix : FVec Ideal u .f32) (iy : IVec u 32) (hix : ∀ i, ix i = (⊤ : EReal))
    (j : t.Idx) (r : Fin n0) (hr : r.val = (j ⟨0, h.lt_r2_a1_0⟩).val) (hx : ∀ k, x (ix2 r k) ≠ (⊤ : EReal)) :
    (Host.argReduce (F := Ideal) (φ := .f32) f x y ix iy h hu j).2
      = BitVec.ofNat 32 (firstLeast fun k => x (ix2 r k)).val := by
  have fib (i : (⟨2, ![n0, n1]⟩ : Shape).Idx) : h.drop i = j ↔ ∃ k : Fin n1, ix2 r k = i := by
    have er : r = ⟨(j ⟨0, h.lt_r2_a1_0⟩).val, Shape.coordLt (j ⟨0, h.lt_r2_a1_0⟩) h.size_r2_a1_0⟩ := Fin.ext hr
    rw [er]; exact h.fiber_r2_a1 j i
  rw [Ideal.argReduce_eq_reduce2, Host.reduce2_eq_foldl_fiber]
  have mem (p : EReal × BitVec 32) : p ∈ Host.argReduceFiber x y h j ↔ ∃ k : Fin n1, p = (x (ix2 r k), BitVec.ofNat 32 k.val) := by
    unfold Host.argReduceFiber
    constructor
    · intro hp
      obtain ⟨n, hn, rfl⟩ := List.mem_map.mp hp
      have hd := of_decide_eq_true (List.mem_filter.mp hn).2
      obtain ⟨k, hk⟩ := (fib _).mp hd
      refine ⟨k, ?_⟩
      rw [← hk, hy]
    · rintro ⟨k, rfl⟩
      refine List.mem_map.mpr ⟨(⟨2, ![n0, n1]⟩ : Shape).rowMajor (ix2 r k), List.mem_filter.mpr ⟨List.mem_finRange _, ?_⟩, ?_⟩
      · rw [decide_eq_true_iff, Equiv.symm_apply_apply]; exact (fib _).mpr ⟨k, rfl⟩
      · rw [Equiv.symm_apply_apply, hy]
  obtain ⟨hm, -, hall⟩ := foldl_keepsFirst hf (Host.argReduceFiber x y h j) (ix (Shape.Idx.first hu), iy (Shape.Idx.first hu))
  generalize (Host.argReduceFiber x y h j).foldl f (ix (Shape.Idx.first hu), iy (Shape.Idx.first hu)) = res at hm hall
  have small (k : Fin n1) : (BitVec.ofNat 32 k.val).toInt = k.val :=
    StableHlo.Predicate.toInt_ofNat_small _ (by have := k.isLt; omega)
  have hmem : res ∈ Host.argReduceFiber x y h j := by
    rcases hm with hm | hm
    · have h0 := hall _ ((mem _).mpr ⟨0, rfl⟩)
      rw [hm, hix] at h0
      rcases h0 with h0 | ⟨h0, -⟩
      · exact absurd h0 not_top_lt
      · exact absurd h0.symm (hx 0)
    · exact hm
  obtain ⟨k, rfl⟩ := (mem _).mp hmem
  have hk : IsFirst (fun k => x (ix2 r k)) k := by
    intro k'
    rcases hall _ ((mem _).mpr ⟨k', rfl⟩) with hl | ⟨he, hl⟩
    · exact .inl hl
    · refine .inr ⟨he, ?_⟩
      rw [small, small] at hl
      exact Fin.le_def.mpr (by omega)
  rw [hk.eq]

end Cert.Least

end
-- ==== Proof.Block.lean ====
/-
  What one block of the kernel computes. The body treats its sixteen rows of positions alike: each is one product of the
  doubled, negated codebook with the row's vectors, the codebook's squared norms added, and the position of the first
  least score in each column. So the block it writes is one function of the block it reads.
-/
module

public import proofs.«01_k».proof.Proof.Least
public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe
open Cert.Least

/-- The score of codebook vector `k` at a vector `x`: the product of `k`'s row of the first matrix with `x`, plus
    `k`'s entry of the second. -/
def score (w : Vec Ideal S512x32 .f32) (q : Vec Ideal S512x1 .f32) (x : Fin 32 → EReal) (k : Fin 512) : EReal :=
  (∑ d : Fin 32, w (ix2 k d) * x d) + q (ix2 k 0)

/-- The block the body writes: at row `r` and column `p`, the position of the first least score of the vector the read
    block holds there. -/
def codes (x : Vec Ideal S16x1024x32 .f32) (w : Vec Ideal S512x32 .f32) (q : Vec Ideal S512x1 .f32) : IVec S16x1024 32 :=
  fun i => BitVec.ofNat 32 (firstLeast (score w q fun d => x (ix3 (i 0) (i 1) d))).val

/-- One row's payload at a column. -/
theorem row_apply (w : Vec Ideal S512x32 .f32) (q : Vec Ideal S512x1 .f32) (x : Vec Ideal S1x1024x32 .f32) (p : Fin 1024) :
    k0_pay5 w q x (ix2 0 p) = BitVec.ofNat 32 (firstLeast (score w q fun d => x (ix3 0 p d))).val := by
  pointwise [k0_pay5, k0_pay3, k0_pay4]
  refine (reduceIndex_argMin_first reduces_S512x1024_S1024 _ (ix1 p) p rfl).trans ?_
  refine congrArg (fun f => BitVec.ofNat 32 (firstLeast f).val) (funext fun k => ?_)
  pointwise [score]

/-- Row `r` of the block that is read, as the body loads it. -/
abbrev rowIn (r : Fin 16) : Rect S16x1024x32 :=
  Rect.unit (s := S16x1024x32) ![r.val, 0, 0] S1x1024x32.size fun a => by have := r.isLt; fin_cases a <;> simp <;> omega

/-- Row `r` of the block that is written, as the body stores it. -/
abbrev rowOut (r : Fin 16) : Rect S16x1024 :=
  Rect.unit (s := S16x1024) ![r.val, 0] S1x1024.size fun a => by have := r.isLt; fin_cases a <;> simp <;> omega

/-- What the body stores in row `r` is row `r` of `codes`. -/
theorem row_eq (x : Vec Ideal S16x1024x32 .f32) (w : Vec Ideal S512x32 .f32) (q : Vec Ideal S512x1 .f32) (r : Fin 16)
    (j : S1x1024.Idx) : k0_pay5 w q (View.ld x (rowIn r)) j = codes x w q ((rowOut r).emb j) := by
  idx_vars j
  obtain rfl : j0 = 0 := Subsingleton.elim _ _
  rw [row_apply]
  unfold codes
  refine congrArg (fun f => BitVec.ofNat 32 (firstLeast (score w q f)).val) (funext fun d => ?_)
  refine congrArg x (funext fun a => Fin.ext ?_)
  match a with
  | ⟨0, _⟩ => rfl
  | ⟨1, _⟩ => rfl
  | ⟨2, _⟩ => simp [Rect.unit]

/-- The block the body writes is `codes` of the block it reads. -/
theorem out_eq (x : Vec Ideal S16x1024x32 .f32) (w : Vec Ideal S512x32 .f32) (q : Vec Ideal S512x1 .f32) :
    out0_3 x w q = codes x w q := by
  have hw : View.ld w r0_0 = w := View.ld_unit_zero (funext fun a => by fin_cases a <;> rfl) _ _
  have hq : View.ld q r0_1 = q := View.ld_unit_zero (funext fun a => by fin_cases a <;> rfl) _ _
  unfold_out out0_3
  rw [hw, hq]
  funext y
  refine View.canon_apply_of_pieces (codes x w q) _ ?_ y (cover0_3 (F := Ideal) _ _ _ _ _ _ _ _ _ _ _ _ _ _ _ _ y)
  refine List.forall_mem_cons.mpr ⟨row_eq x w q 15, ?_⟩
  refine List.forall_mem_cons.mpr ⟨row_eq x w q 14, ?_⟩
  refine List.forall_mem_cons.mpr ⟨row_eq x w q 13, ?_⟩
  refine List.forall_mem_cons.mpr ⟨row_eq x w q 12, ?_⟩
  refine List.forall_mem_cons.mpr ⟨row_eq x w q 11, ?_⟩
  refine List.forall_mem_cons.mpr ⟨row_eq x w q 10, ?_⟩
  refine List.forall_mem_cons.mpr ⟨row_eq x w q 9, ?_⟩
  refine List.forall_mem_cons.mpr ⟨row_eq x w q 8, ?_⟩
  refine List.forall_mem_cons.mpr ⟨row_eq x w q 7, ?_⟩
  refine List.forall_mem_cons.mpr ⟨row_eq x w q 6, ?_⟩
  refine List.forall_mem_cons.mpr ⟨row_eq x w q 5, ?_⟩
  refine List.forall_mem_cons.mpr ⟨row_eq x w q 4, ?_⟩
  refine List.forall_mem_cons.mpr ⟨row_eq x w q 3, ?_⟩
  refine List.forall_mem_cons.mpr ⟨row_eq x w q 2, ?_⟩
  refine List.forall_mem_cons.mpr ⟨row_eq x w q 1, ?_⟩
  refine List.forall_mem_cons.mpr ⟨row_eq x w q 0, ?_⟩
  exact fun _ h => absurd h List.not_mem_nil

end Cert.KernelIdeal.Block

end
-- ==== Proof.KernelValue.lean ====
/-
  What the kernel's result array holds after a run. Grid point `t` writes the sixteen rows of positions `16 t` to
  `16 t + 15`; the four points' blocks cover the array; so the array holds, at each position, the codebook index of the
  first least score of the vector there.
-/
module

public import proofs.«01_k».proof.Proof.Block
public import Idealize.ShloMosaic.Lib.StableHlo.Run

@[expose] public section

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Cert.Least Cert.KernelIdeal.Block

variable (m : (ℓ : Loc nD τ sig) → Buf (Elt Ideal) ℓ) (ρ : Dev nD → PrngReg)

/-- The codebook times minus two, as the program prepares it for the products. -/
def scaled (v : FVec Ideal S512x32 .f32) : FVec Ideal S512x32 .f32 :=
  mulf (broadcastInDim S512x32 ![] bcast_S_S512x32 (constant S_ .f32 0xC0000000#32)) v

/-- The codebook vectors' squared norms, as the program prepares them, in a column. -/
def norms (v : FVec Ideal S512x32 .f32) : FVec Ideal S512x1 .f32 :=
  broadcastInDim S512x1 ![0] bcast_S512_S512x1_0
    (Host.reduceAdd (mulf v v) (constant S_ .f32 0x00000000#32) reducesTo_S512x32_S512_d1 h_S_)

/-- The codebook index of the first least score, at every position of the array of vectors. -/
def allCodes (x : FVec Ideal S64x1024x32 .f32) (w : FVec Ideal S512x32 .f32) (q : FVec Ideal S512x1 .f32) : IVec S64x1024 32 :=
  fun i => BitVec.ofNat 32 (firstLeast (score w q fun d => x (ix3 (i 0) (i 1) d))).val

/-- What the kernel computes from its two arguments. -/
def result (x : FVec Ideal S64x1024x32 .f32) (v : FVec Ideal S512x32 .f32) : IVec S64x1024 32 :=
  allCodes x (scaled v) (norms v)

/-- The region finds the first argument in its first window's array: the two reshapes undo each other. -/
theorem V_main_v1 (c : Dev nD) : V m c main_v1 = m ((c : Thread nD τ).loc main_arg0) := by
  show StableHlo.after hostOps0 (fun b => m (c, b)) (main_v1 : DevRef τ sig) = _
  unfold hostOps0
  after_results
  exact shapeCast_shapeCast (s := S64x1024x32) (t := S65536x32) _ _ _

/-- The region finds the scaled codebook in its second window's array. -/
theorem V_main_v3 (c : Dev nD) : V m c main_v3 = scaled (m ((c : Thread nD τ).loc main_arg1)) := by
  show StableHlo.after hostOps0 (fun b => m (c, b)) (main_v3 : DevRef τ sig) = _
  unfold hostOps0
  after_results
  rfl

/-- The region finds the squared norms in its third window's array. -/
theorem V_main_v6 (c : Dev nD) : V m c main_v6 = norms (m ((c : Thread nD τ).loc main_arg1)) := by
  show StableHlo.after hostOps0 (fun b => m (c, b)) (main_v6 : DevRef τ sig) = _
  unfold hostOps0
  after_results
  rfl

/-- Where the windows' blocks lie at a grid point. -/
theorem index_facts : ∀ t : Fin cfg0.N,
    (win0_0.index t 0 = t.val ∧ win0_0.index t 1 = 0 ∧ win0_0.index t 2 = 0)
      ∧ (win0_1.index t 0 = 0 ∧ win0_1.index t 1 = 0) ∧ (win0_2.index t 0 = 0 ∧ win0_2.index t 1 = 0)
      ∧ (win0_3.index t 0 = t.val ∧ win0_3.index t 1 = 0) :=
  (by decide +kernel : ∀ t : Fin grid0.N,
    (win0_0.index t 0 = t.val ∧ win0_0.index t 1 = 0 ∧ win0_0.index t 2 = 0)
      ∧ (win0_1.index t 0 = 0 ∧ win0_1.index t 1 = 0) ∧ (win0_2.index t 0 = 0 ∧ win0_2.index t 1 = 0)
      ∧ (win0_3.index t 0 = t.val ∧ win0_3.index t 1 = 0))

/-- The first window's block at a point, at an index: the array of vectors, sixteen rows further per point. -/
theorem iblk0_apply (c : Dev nD) (t : Fin cfg0.N) (r : Fin 16) (p : Fin 1024) (d : Fin 32) (hr : 16 * t.val + r.val < 64) :
    iblk m c 0 t (ix3 r p d) = V m c main_v1 (ix3 ⟨16 * t.val + r.val, hr⟩ p d) := by
  obtain ⟨⟨h0, h1, h2⟩, -⟩ := index_facts t
  show V m c main_v1 ((win0_0.rect t).emb (ix3 r p d)) = _
  refine congrArg _ (funext fun a => Fin.ext ?_)
  match a with
  | ⟨0, _⟩ => show win0_0.index t 0 * 16 + 1 * r.val = 16 * t.val + r.val; rw [h0]; omega
  | ⟨1, _⟩ => show win0_0.index t 1 * 1024 + 1 * p.val = p.val; rw [h1]; omega
  | ⟨2, _⟩ => show win0_0.index t 2 * 32 + 1 * d.val = d.val; rw [h2]; omega

/-- The second window's block at every point is the whole scaled codebook, -/
theorem iblk1_eq (c : Dev nD) (t : Fin cfg0.N) : iblk m c 1 t = V m c main_v3 := by
  obtain ⟨-, ⟨h0, h1⟩, -⟩ := index_facts t
  funext j
  show V m c main_v3 ((win0_1.rect t).emb j) = _
  refine congrArg _ (funext fun a => Fin.ext ?_)
  match a with
  | ⟨0, _⟩ => show win0_1.index t 0 * 512 + 1 * (j 0).val = (j 0).val; rw [h0]; omega
  | ⟨1, _⟩ => show win0_1.index t 1 * 32 + 1 * (j 1).val = (j 1).val; rw [h1]; omega

/-- and the third window's is the whole column of squared norms. -/
theorem iblk2_eq (c : Dev nD) (t : Fin cfg0.N) : iblk m c 2 t = V m c main_v6 := by
  obtain ⟨-, -, ⟨h0, h1⟩, -⟩ := index_facts t
  funext j
  show V m c main_v6 ((win0_2.rect t).emb j) = _
  refine congrArg _ (funext fun a => Fin.ext ?_)
  match a with
  | ⟨0, _⟩ => show win0_2.index t 0 * 512 + 1 * (j 0).val = (j 0).val; rw [h0]; omega
  | ⟨1, _⟩ => show win0_2.index t 1 * 1 + 1 * (j 1).val = (j 1).val; rw [h1]; omega

/-- What point `t` writes back is its block of the whole array of codes. -/
theorem flushed_eq (c : Dev nD) (t : Fin cfg0.N) :
    (dats m 0 c).flushed 3 t
      = (win0_3.blk t).view.read (Elt Ideal) (allCodes (V m c main_v1) (V m c main_v3) (V m c main_v6)) := by
  rw [Value.flushed3, out_eq, iblk1_eq, iblk2_eq]
  obtain ⟨-, -, -, h0, h1⟩ := index_facts t
  have ht : t.val < 4 := lt_of_lt_of_eq t.isLt N_0
  funext j
  show codes (iblk m c 0 t) (V m c main_v3) (V m c main_v6) j
    = allCodes (V m c main_v1) (V m c main_v3) (V m c main_v6) ((win0_3.rect t).emb j)
  have hj : (j 0).val < 16 := (j 0).isLt
  unfold codes allCodes
  refine congrArg (fun f => BitVec.ofNat 32 (firstLeast (score (V m c main_v3) (V m c main_v6) f)).val) (funext fun d => ?_)
  rw [iblk0_apply m c t (j 0) (j 1) d (by omega)]
  refine congrArg _ (funext fun a => Fin.ext ?_)
  match a with
  | ⟨0, _⟩ => show 16 * t.val + (j 0).val = win0_3.index t 0 * 16 + 1 * (j 0).val; rw [h0]; omega
  | ⟨1, _⟩ => show (j 1).val = win0_3.index t 1 * 1024 + 1 * (j 1).val; rw [h1]; omega
  | ⟨2, _⟩ => rfl

/-- Every index of the result array lies in the block of the point its row belongs to. -/
theorem cover (i : S64x1024.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hN : cfg0.N = 4 := N_0
  have ht : (i 0).val / 16 < cfg0.N := by omega
  refine ⟨⟨(i 0).val / 16, ht⟩, flush0_3 _, ?_⟩
  obtain ⟨-, -, -, h0, h1⟩ := index_facts ⟨(i 0).val / 16, ht⟩
  show i ∈ ((View.whole main_v7).slice (win0_3.rect ⟨(i 0).val / 16, ht⟩)).set
  rw [View.set_slice_whole, Rect.mem_set_unit]
  intro a
  match a with
  | ⟨0, _⟩ =>
    show win0_3.index ⟨(i 0).val / 16, ht⟩ 0 * 16 ≤ (i 0).val ∧ (i 0).val < win0_3.index ⟨(i 0).val / 16, ht⟩ 0 * 16 + 16
    rw [h0]; dsimp only; omega
  | ⟨1, _⟩ =>
    show win0_3.index ⟨(i 0).val / 16, ht⟩ 1 * 1024 ≤ (i 1).val ∧ (i 1).val < win0_3.index ⟨(i 0).val / 16, ht⟩ 1 * 1024 + 1024
    rw [h1]; omega

/-- So the result array ends holding `result` of the two arguments. -/
theorem final (c : Dev nD) :
    (dats m 0 c).arrAt 3 cfg0.N = result (m ((c : Thread nD τ).loc main_arg0)) (m ((c : Thread nD τ).loc main_arg1)) := by
  rw [(dats m 0 c).arrAt_eq_of_cover 3 _ (fun t _ => flushed_eq m c t) cover, V_main_v1, V_main_v3, V_main_v6]
  rfl

/-- From any memory with zero counters every execution of the kernel's program terminates, the result array ends at
    `result` of the two arguments' initial contents, and the arguments end unchanged. -/
theorem run : θ_run defs (onTc (τ := τ) (main (F := Ideal))) ⟨m, fun _ => 0, ρ⟩ fun r => ∀ c : Dev nD,
      r.2.mem ((c : Thread nD τ).loc main_v7) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.KernelValue

end
-- ==== Proof.Distance.lean ====
/-
  The mathematics of the two rankings. Over real entries the reference's distance to a codebook vector is the square root
  of `|x - v|²`, and the kernel's score is `|x - v|² - |x|²`. Both are increasing in `|x - v|²`, so they order the codebook
  vectors alike.
-/
module

public import Idealize.ShloMosaic.Lib.Pointwise

@[expose] public section

noncomputable section

namespace Cert.Distance

open Idealize.ShloMosaic

/-- The squared distance of two real vectors. -/
def sq {n : ℕ} (x v : Fin n → ℝ) : ℝ := ∑ d, (x d - v d) ^ 2

theorem sq_nonneg {n : ℕ} (x v : Fin n → ℝ) : 0 ≤ sq x v :=
  Finset.sum_nonneg fun _ _ => pow_two_nonneg _

/-- The extended reals' sum of real numbers is the real sum. -/
theorem coe_sum {n : ℕ} (f : Fin n → ℝ) : (∑ d, (f d : EReal)) = ((∑ d, f d : ℝ) : EReal) :=
  (map_sum (⟨⟨Real.toEReal, rfl⟩, EReal.coe_add⟩ : ℝ →+ EReal) f Finset.univ).symm

/-- The distance the reference computes. -/
def distance {n : ℕ} (x v : Fin n → EReal) : EReal :=
  Ideal.sqrt (max (((∑ d, x d * x d) + ∑ d, v d * v d) - 2 * ∑ d, x d * v d) 0)

/-- The score the kernel computes. -/
def score {n : ℕ} (x v : Fin n → EReal) : EReal :=
  (∑ d, (-2 * v d) * x d) + ∑ d, v d * v d

/-- Over real entries the distance is the square root of the squared distance. -/
theorem distance_real {n : ℕ} (x v : Fin n → ℝ) :
    distance (fun d => (x d : EReal)) (fun d => (v d : EReal)) = ((Real.sqrt (sq x v) : ℝ) : EReal) := by
  have e : ((∑ d, x d * x d) + ∑ d, v d * v d) - 2 * ∑ d, x d * v d = sq x v := by
    unfold sq
    rw [Finset.mul_sum, ← Finset.sum_add_distrib, ← Finset.sum_sub_distrib]
    exact Finset.sum_congr rfl fun d _ => by ring
  have h : (((∑ d, (x d : EReal) * x d) + ∑ d, (v d : EReal) * v d) - 2 * ∑ d, (x d : EReal) * v d) = ((sq x v : ℝ) : EReal) := by
    rw [← e]
    simp only [← EReal.coe_mul, coe_sum]
    rfl
  unfold distance
  rw [h, max_eq_left (EReal.coe_nonneg.2 (sq_nonneg x v))]
  exact if_neg (not_lt.2 (sq_nonneg x v))

/-- Over real entries the score is the squared distance less the squared norm of the first vector. -/
theorem score_real {n : ℕ} (x v : Fin n → ℝ) :
    score (fun d => (x d : EReal)) (fun d => (v d : EReal)) = ((sq x v - ∑ d, x d * x d : ℝ) : EReal) := by
  have e : (∑ d, (-2 * v d) * x d) + ∑ d, v d * v d = sq x v - ∑ d, x d * x d := by
    unfold sq
    rw [← Finset.sum_add_distrib, ← Finset.sum_sub_distrib]
    exact Finset.sum_congr rfl fun d _ => by ring
  have two : (-2 : EReal) = ((-2 : ℝ) : EReal) := rfl
  unfold score
  rw [← e, two]
  simp only [← EReal.coe_mul, coe_sum]
  rfl

/-- Over real entries the distance is not the top extended real. -/
theorem distance_ne_top {n : ℕ} (x v : Fin n → ℝ) :
    distance (fun d => (x d : EReal)) (fun d => (v d : EReal)) ≠ ⊤ := by
  rw [distance_real]
  exact EReal.coe_ne_top _

/-- Over real entries the scores of two vectors compare as their distances do. -/
theorem score_lt_iff {n : ℕ} (x v w : Fin n → ℝ) :
    score (fun d => (x d : EReal)) (fun d => (v d : EReal)) < score (fun d => (x d : EReal)) (fun d => (w d : EReal))
      ↔ distance (fun d => (x d : EReal)) (fun d => (v d : EReal)) < distance (fun d => (x d : EReal)) (fun d => (w d : EReal)) := by
  rw [score_real, score_real, distance_real, distance_real, EReal.coe_lt_coe_iff, EReal.coe_lt_coe_iff,
    Real.sqrt_lt_sqrt_iff (sq_nonneg x v), sub_lt_sub_iff_right]

end Cert.Distance

end
-- ==== Proof.Finite.lean ====
/-
  What the precondition says of the two arguments that the equation of the results needs: every entry is a real number.
-/
module

public import proofs.«01_k».proof.Proof.Gen.Pre_unique_nearest
public import Idealize.ShloMosaic.Lib.Pointwise
public import Idealize.ShloMosaic.Lib.ReduceAll
public import Idealize.ShloMosaic.Lib.StableHlo.Predicate

@[expose] public section

set_option maxRecDepth 16384

noncomputable section

namespace Cert.Finite

open Cert.Pre_unique_nearest Cert.Pre_unique_nearest.Gen
open Idealize.ShloMosaic

/-- The 32-bit word of the infinite constant is the top extended real. -/
theorem inf_bits : Ideal.ofBits .f32 0x7F800000#32 = (⊤ : EReal) := by
  simp [Ideal.ofBits, Ideal.ieee]

/-- An extended real whose absolute value is below the top is a real number. -/
theorem real_of_abs_lt {a : EReal} (h : max a (-a) < ⊤) : ∃ r : ℝ, a = r := by
  induction a with
  | bot => exact absurd h (by simp)
  | top => exact absurd h (by simp)
  | coe r => exact ⟨r, rfl⟩

/-- The compare of an absolute value with the infinite constant, read at one entry. -/
theorem real_of_bit {a : EReal} (h : FloatOps.cmpf (F := Ideal) (φ := .f32) .olt (FloatOps.absf (F := Ideal) (φ := .f32) a) (Ideal.ofBits .f32 0x7F800000#32) = 1#1) :
    ∃ r : ℝ, a = r := by
  rw [inf_bits] at h
  exact real_of_abs_lt (of_decide_eq_true ((StableHlo.Predicate.ofBool_eq_one_iff _).1 h))

/-- Where the precondition holds, every entry of both arguments is a real number. -/
theorem finite_of_pre (x : FVec Ideal S64x1024x32 .f32) (v : FVec Ideal S512x32 .f32)
    (h : fn (F := Ideal) x v = fun _ => 1#1) : (∀ i, ∃ r : ℝ, x i = (r : EReal)) ∧ ∀ i, ∃ r : ℝ, v i = (r : EReal) := by
  have h0 := congrFun h (ix1 (0 : Fin 65536))
  have h1 := (IntOp.andi_eq_one.1 h0).2
  obtain ⟨hx, hv⟩ := IntOp.andi_eq_one.1 h1
  haveI : Subsingleton S_.Idx := ⟨fun a b => funext fun i => i.elim0⟩
  exact ⟨fun i => real_of_bit (Host.reduce_andi_all _ _ _ _ _ hx i), fun i => real_of_bit (Host.reduce_andi_all _ _ _ _ _ hv i)⟩

end Cert.Finite

end
-- ==== Proof.RefRun.lean ====
/-
  The run of the reference program, a straight line of host operations: the squared distances of every row to every
  codebook vector, cut off at zero below, their square roots, and the position of the least one in each row. From any
  memory with zero semaphore counters it terminates with the result array at `result` of the two arguments and the
  arguments unchanged.
-/
module

public import Idealize.ShloMosaic.Lib.StableHlo.Run
public import proofs.«01_k».proof.Proof.Gen.ReferenceIdeal

@[expose] public section

set_option maxRecDepth 16384

noncomputable section

namespace Cert.ReferenceIdeal.RefRun

open Cert.ReferenceIdeal Cert.ReferenceIdeal.Gen
open Idealize.ShloMosaic Idealize.ShloMosaic.TcCoe Idealize.ShloMosaic.StableHlo Idealize.SL.Sem

variable {F : FTy → Type} [FloatOps F]

/-- The distances of every row of `x` to every codebook vector, as the reference spells them: the square root of
    `max (|x|² + |v|² - 2 x·v) 0`. -/
def dist (x : FVec F S64x1024x32 .f32) (v : FVec F S512x32 .f32) : FVec F S65536x512 .f32 :=
  let xf := shapeCast S65536x32 x shapeCasts_S64x1024x32_S65536x32
  let x2 := Host.reduceAdd (mulf xf xf) (constant S_ .f32 0x00000000#32) reducesTo_S65536x32_S65536_d1 h_S_
  let v2 := Host.reduceAdd (mulf v v) (constant S_ .f32 0x00000000#32) reducesTo_S512x32_S512_d1 h_S_
  let sums := addf
    (broadcastInDim S65536x512 ![0, 1] bcast_S65536x1_S65536x512_0_1 (broadcastInDim S65536x1 ![0] bcast_S65536_S65536x1_0 x2))
    (broadcastInDim S65536x512 ![0, 1] bcast_S1x512_S65536x512_0_1 (broadcastInDim S1x512 ![1] bcast_S512_S1x512_1 v2))
  let cross := Host.dotGeneral dot_S65536x32_S32x512_S65536x512_1_0_0_1_n_n none xf
    (transpose S32x512 [1, 0] v transposes_S512x32_S32x512_1_0)
  let twice := mulf (broadcastInDim S65536x512 ![] bcast_S_S65536x512 (constant S_ .f32 0x40000000#32)) cross
  Host.sqrt (maximumf (subf sums twice) (broadcastInDim S65536x512 ![] bcast_S_S65536x512 (constant S_ .f32 0x00000000#32)))

/-- Per row of distances, the position the arg-min reduction keeps. -/
def argmin (d : FVec F S65536x512 .f32) : IVec S65536 32 := fun j =>
  (Host.argReduce reducer_argmin_f32_i32 d (iotaInDim S65536x512 32 1) (constant S_ .f32 0x7F800000#32) (constantI S_ 32 0#32)
    reducesTo_S65536x512_S65536_d1 h_S_ j).2

/-- What the result array ends holding: the position of the least distance, per row, in the result's shape. -/
def result (x : FVec F S64x1024x32 .f32) (v : FVec F S512x32 .f32) : IVec S64x1024 32 :=
  shapeCast S64x1024 (argmin (dist x v)) shapeCasts_S65536_S64x1024

/-- The operations that compute the distances, in order. -/
abbrev opsDist : List (HloOp τ sig (Elt F)) :=
  [ reshape main_arg0 main_v0 (rfl : (.f32 : EltTy) = .f32) shapeCasts_S64x1024x32_S65536x32,
    binary main_v0 main_v0 main_v1 (mulf : (⟨S65536x32, .f32⟩ : BufTy).Contents (Elt F) → (⟨S65536x32, .f32⟩ : BufTy).Contents (Elt F) → (⟨S65536x32, .f32⟩ : BufTy).Contents (Elt F)),
    nullary main_cst (constant S_ .f32 0x00000000#32),
    binary main_v1 main_cst main_v2 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v2 main_v3 (broadcastInDim S65536x1 ![0] bcast_S65536_S65536x1_0 : (⟨S65536, .f32⟩ : BufTy).Contents (Elt F) → (⟨S65536x1, .f32⟩ : BufTy).Contents (Elt F)),
    binary main_arg1 main_arg1 main_v4 (mulf : (⟨S512x32, .f32⟩ : BufTy).Contents (Elt F) → (⟨S512x32, .f32⟩ : BufTy).Contents (Elt F) → (⟨S512x32, .f32⟩ : BufTy).Contents (Elt F)),
    nullary main_cst_0 (constant S_ .f32 0x00000000#32),
    binary main_v4 main_cst_0 main_v5 ((fun x v => Host.reduceAdd x v reducesTo_S512x32_S512_d1 h_S_) : (⟨S512x32, .f32⟩ : BufTy).Contents (Elt F) → (⟨S_, .f32⟩ : BufTy).Contents (Elt F) → (⟨S512, .f32⟩ : BufTy).Contents (Elt F)),
    unary main_v5 main_v6 (broadcastInDim S1x512 ![1] bcast_S512_S1x512_1 : (⟨S512, .f32⟩ : BufTy).Contents (Elt F) → (⟨S1x512, .f32⟩ : BufTy).Contents (Elt F)),
    unary main_v3 main_v7 (broadcastInDim S65536x512 ![0, 1] bcast_S65536x1_S65536x512_0_1 : (⟨S65536x1, .f32⟩ : BufTy).Contents (Elt F) → (⟨S65536x512, .f32⟩ : BufTy).Contents (Elt F)),
    unary main_v6 main_v8 (broadcastInDim S65536x512 ![0, 1] bcast_S1x512_S65536x512_0_1 : (⟨S1x512, .f32⟩ : BufTy).Contents (Elt F) → (⟨S65536x512, .f32⟩ : BufTy).Contents (Elt F)),
    binary main_v7 main_v8 main_v9 (addf : (⟨S65536x512, .f32⟩ : BufTy).Contents (Elt F) → (⟨S65536x512, .f32⟩ : BufTy).Contents (Elt F) → (⟨S65536x512, .f32⟩ : BufTy).Contents (Elt F)),
    unary main_arg1 main_v10 ((transpose S32x512 [1, 0] · transposes_S512x32_S32x512_1_0) : (⟨S512x32, .f32⟩ : BufTy).Contents (Elt F) → (⟨S32x512, .f32⟩ : BufTy).Contents (Elt F)),
    binary main_v0 main_v10 main_v11 ((fun l r => Host.dotGeneral dot_S65536x32_S32x512_S65536x512_1_0_0_1_n_n none l r) : (⟨S65536x32, .f32⟩ : BufTy).Contents (Elt F) → (⟨S32x512, .f32⟩ : BufTy).Contents (Elt F) → (⟨S65536x512, .f32⟩ : BufTy).Contents (Elt F)),
    nullary main_cst_1 (constant S_ .f32 0x40000000#32),
    unary main_cst_1 main_v12 (broadcastInDim S65536x512 ![] bcast_S_S65536x512 : (⟨S_, .f32⟩ : BufTy).Contents (Elt F) → (⟨S65536x512, .f32⟩ : BufTy).Contents (Elt F)),
    binary main_v12 main_v11 main_v13 (mulf : (⟨S65536x512, .f32⟩ : BufTy).Contents (Elt F) → (⟨S65536x512, .f32⟩ : BufTy).Contents (Elt F) → (⟨S65536x512, .f32⟩ : BufTy).Contents (Elt F)),
    binary main_v9 main_v13 main_v14 (subf : (⟨S65536x512, .f32⟩ : BufTy).Contents (Elt F) → (⟨S65536x512, .f32⟩ : BufTy).Contents (Elt F) → (⟨S65536x512, .f32⟩ : BufTy).Contents (Elt F)),
    nullary main_cst_2 (constant S_ .f32 0x00000000#32),
    unary main_cst_2 main_v15 (broadcastInDim S65536x512 ![] bcast_S_S65536x512 : (⟨S_, .f32⟩ : BufTy).Contents (Elt F) → (⟨S65536x512, .f32⟩ : BufTy).Contents (Elt F)),
    binary main_v14 main_v15 main_v16 (maximumf : (⟨S65536x512, .f32⟩ : BufTy).Contents (Elt F) → (⟨S65536x512, .f32⟩ : BufTy).Contents (Elt F) → (⟨S65536x512, .f32⟩ : BufTy).Contents (Elt F)),
    unary main_v16 main_v17 (Host.sqrt : (⟨S65536x512, .f32⟩ : BufTy).Contents (Elt F) → (⟨S65536x512, .f32⟩ : BufTy).Contents (Elt F)) ]

/-- The operations of the arg-min function, at the buffers of its one call. -/
abbrev opsArgmin : List (HloOp τ sig (Elt F)) :=
  [ nullary main_call0_v0 (iotaInDim S65536x512 32 1),
    nullary main_call0_cst (constant S_ .f32 0x7F800000#32),
    nullary main_call0_c (constantI S_ 32 0#32),
    quaternary main_v17 main_call0_v0 main_call0_cst main_call0_c main_call0_v1_0 ((fun x y u v j => (Host.argReduce reducer_argmin_f32_i32 x y u v reducesTo_S65536x512_S65536_d1 h_S_ j).1) : (⟨S65536x512, .f32⟩ : BufTy).Contents (Elt F) → (⟨S65536x512, .i32⟩ : BufTy).Contents (Elt F) → (⟨S_, .f32⟩ : BufTy).Contents (Elt F) → (⟨S_, .i32⟩ : BufTy).Contents (Elt F) → (⟨S65536, .f32⟩ : BufTy).Contents (Elt F)),
    quaternary main_v17 main_call0_v0 main_call0_cst main_call0_c main_v18 ((fun x y u v j => (Host.argReduce reducer_argmin_f32_i32 x y u v reducesTo_S65536x512_S65536_d1 h_S_ j).2) : (⟨S65536x512, .f32⟩ : BufTy).Contents (Elt F) → (⟨S65536x512, .i32⟩ : BufTy).Contents (Elt F) → (⟨S_, .f32⟩ : BufTy).Contents (Elt F) → (⟨S_, .i32⟩ : BufTy).Contents (Elt F) → (⟨S65536, .i32⟩ : BufTy).Contents (Elt F)) ]

/-- The last operation. -/
abbrev opsShape : List (HloOp τ sig (Elt F)) :=
  [ reshape main_v18 main_v19 (rfl : (.i32 : EltTy) = .i32) shapeCasts_S65536_S64x1024 ]

/-- The program's operations, in order. -/
abbrev ops : List (HloOp τ sig (Elt F)) := opsDist ++ (opsArgmin ++ opsShape)

/-- The program is that straight line. -/
theorem main_eq (c : Dev nD) : main (F := F) c = seq ops := rfl

/-- The distances' buffer after the first operations, -/
theorem dist_eq (V : Valuation τ sig (Elt F)) :
    after opsDist V (main_v17 : DevRef τ sig) = dist (V (main_arg0 : DevRef τ sig)) (V (main_arg1 : DevRef τ sig)) := by
  after_results
  rfl

/-- the positions' buffer after the arg-min function's, -/
theorem argmin_eq (V : Valuation τ sig (Elt F)) :
    after opsArgmin V (main_v18 : DevRef τ sig) = argmin (V (main_v17 : DevRef τ sig)) := by
  unfold argmin
  after_results

/-- the result array after the last one, -/
theorem shape_eq (V : Valuation τ sig (Elt F)) :
    after opsShape V (main_v19 : DevRef τ sig) = shapeCast S64x1024 (V (main_v18 : DevRef τ sig)) shapeCasts_S65536_S64x1024 := by
  after_results
  rfl

/-- and so the result array after all of them, from what the buffers held before. -/
theorem result_eq (V : Valuation τ sig (Elt F)) :
    after ops V (main_v19 : DevRef τ sig) = result (V (main_arg0 : DevRef τ sig)) (V (main_arg1 : DevRef τ sig)) := by
  show after opsShape (after opsArgmin (after opsDist V)) (main_v19 : DevRef τ sig) = _
  rw [shape_eq, argmin_eq, dist_eq]
  unfold result
  with_reducible rfl

/-- No operation writes the first argument, -/
theorem arg0_eq (V : Valuation τ sig (Elt F)) :
    after ops V (main_arg0 : DevRef τ sig) = V (main_arg0 : DevRef τ sig) := by
  show after opsShape (after opsArgmin (after opsDist V)) (main_arg0 : DevRef τ sig) = _
  after_results

/-- and none the second. -/
theorem arg1_eq (V : Valuation τ sig (Elt F)) :
    after ops V (main_arg1 : DevRef τ sig) = V (main_arg1 : DevRef τ sig) := by
  show after opsShape (after opsArgmin (after opsDist V)) (main_arg1 : DevRef τ sig) = _
  after_results

/-- The program scopes no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- Every operation's buffers are the TensorCore's. -/
theorem ops_sub : (ops : List (HloOp τ sig (Elt F))).Forall fun op => op.bufs ⊆ tcRefs τ sig :=
  ⟨reshape_bufs_sub .., binary_bufs_sub .., nullary_bufs_sub .., binary_bufs_sub .., unary_bufs_sub ..,
    binary_bufs_sub .., nullary_bufs_sub .., binary_bufs_sub .., unary_bufs_sub .., unary_bufs_sub ..,
    unary_bufs_sub .., binary_bufs_sub .., unary_bufs_sub .., binary_bufs_sub .., nullary_bufs_sub ..,
    unary_bufs_sub .., binary_bufs_sub .., binary_bufs_sub .., nullary_bufs_sub .., unary_bufs_sub ..,
    binary_bufs_sub .., unary_bufs_sub .., nullary_bufs_sub .., nullary_bufs_sub .., nullary_bufs_sub ..,
    quaternary_bufs_sub .., quaternary_bufs_sub .., reshape_bufs_sub ..⟩

/-- From any memory with zero counters every execution of the reference terminates, the result array ends at `result`
    of the two arguments' initial contents, and the arguments end unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v19) = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v19).trans (result_eq _),
      (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result at a position: the index of the first codebook vector at the least distance.
-/
module

public import proofs.«01_k».proof.Proof.Least
public import proofs.«01_k».proof.Proof.Distance
public import proofs.«01_k».proof.Proof.Finite
public import proofs.«01_k».proof.Proof.RefRun

@[expose] public section

set_option maxRecDepth 16384

noncomputable section

namespace Cert.ReferenceIdeal.RefValue

open Cert.ReferenceIdeal Cert.ReferenceIdeal.Gen Idealize.ShloMosaic
open Cert.Least Cert.Distance Cert.ReferenceIdeal.RefRun

/-- The 32-bit word of the constant two is two. -/
theorem two_bits : Ideal.ofBits .f32 0x40000000#32 = (2 : EReal) := by
  simp [Ideal.ofBits, Ideal.ieee, -EReal.coe_mul]; norm_num
  rfl

/-- The row a position of the result lies at once the positions are flattened. -/
def row (a : Fin 64) (p : Fin 1024) : Fin 65536 := ⟨1024 * a.val + p.val, by omega⟩

/-- The flattened array of vectors at a position's row is the array of vectors at the position. -/
theorem flat_apply (x : FVec Ideal S64x1024x32 .f32) (a : Fin 64) (p : Fin 1024) (d : Fin 32) :
    shapeCast S65536x32 x shapeCasts_S64x1024x32_S65536x32 (ix2 (row a p) d) = x (ix3 a p d) := by
  refine shapeCast_apply x _ _ _ ?_
  rw [rowMajor_val3 _ 32768 32 rfl rfl, rowMajor_val2 _ 32 rfl]
  show a.val * 32768 + p.val * 32 + d.val = (1024 * a.val + p.val) * 32 + d.val
  omega

/-- The distances read at a position's row. -/
theorem dist_apply (x : FVec Ideal S64x1024x32 .f32) (v : FVec Ideal S512x32 .f32) (a : Fin 64) (p : Fin 1024) (k : Fin 512) :
    RefRun.dist x v (ix2 (row a p) k) = distance (fun d => x (ix3 a p d)) (fun d => v (ix2 k d)) := by
  have e (d : Fin 32) := flat_apply x a p d
  unfold RefRun.dist
  generalize shapeCast S65536x32 x shapeCasts_S64x1024x32_S65536x32 = xf at *
  pointwise [distance]
  simp only [e, two_bits]

/-- The reference's reducer keeps, of two pairs, the one that comes first. -/
theorem keepsFirst : KeepsFirst (reducer_argmin_f32_i32 (F := Ideal)) := by
  intro a b
  have h2 : FloatOps.cmpf (F := Ideal) (φ := .f32) .olt a.1 b.1 = BitVec.ofBool (decide (a.1 < b.1)) := rfl
  have h3 : FloatOps.cmpf (F := Ideal) (φ := .f32) .une a.1 a.1 = BitVec.ofBool (decide (a.1 ≠ a.1)) := rfl
  have h5 : FloatOps.cmpf (F := Ideal) (φ := .f32) .oeq a.1 b.1 = BitVec.ofBool (decide (a.1 = b.1)) := rfl
  have h6 : IntOp.cmpi .slt a.2 b.2 = BitVec.ofBool (decide (a.2.toInt < b.2.toInt)) := rfl
  unfold reducer_argmin_f32_i32 PairLe
  rw [h2, h3, h5, h6]
  have n3 : decide (a.1 ≠ a.1) = false := by simp
  rw [n3]
  rcases lt_trichotomy a.1 b.1 with h | h | h
  · exact .inl ⟨.inl h, by simp [Scalar.select, IntOp.ori, IntOp.andi, h, h.ne]⟩
  · by_cases h' : a.2.toInt < b.2.toInt
    · exact .inl ⟨.inr ⟨h, h'⟩, by simp [Scalar.select, IntOp.ori, IntOp.andi, h, h']; rw [← h]⟩
    · exact .inr ⟨.inr ⟨h.symm, not_lt.1 h'⟩, by simp [Scalar.select, IntOp.ori, IntOp.andi, h, h']⟩
  · exact .inr ⟨.inl h, by simp [Scalar.select, IntOp.ori, IntOp.andi, h.not_gt, h.ne']⟩

/-- The function the arg-min reduction's second result is. -/
theorem argmin_def (y : FVec Ideal S65536x512 .f32) :
    RefRun.argmin y = fun j => (Host.argReduce reducer_argmin_f32_i32 y (iotaInDim S65536x512 32 1)
      (constant S_ .f32 0x7F800000#32) (constantI S_ 32 0#32) reducesTo_S65536x512_S65536_d1 h_S_ j).2 := rfl

/-- The arg-min reduction of an array of distances keeps, at a row of distances below the top extended real, the position
    of the first least one. -/
theorem argmin_apply (y : FVec Ideal S65536x512 .f32) (r : Fin 65536) (h : ∀ k, y (ix2 r k) ≠ ⊤) :
    RefRun.argmin y (ix1 r) = BitVec.ofNat 32 (firstLeast fun k => y (ix2 r k)).val := by
  refine (congrFun (argmin_def y) (ix1 r)).trans ?_
  exact argReduce_first (by norm_num) _ _ keepsFirst _ _ (fun _ _ => rfl) _ _ (fun _ => Cert.Finite.inf_bits) _ r rfl h

/-- The rows' results read at a position. -/
theorem unflat_apply (y : IVec S65536 32) (a : Fin 64) (p : Fin 1024) :
    shapeCast S64x1024 y shapeCasts_S65536_S64x1024 (ix2 a p) = y (ix1 (row a p)) := by
  refine shapeCast_apply y _ _ _ ?_
  rw [rowMajor_val1, rowMajor_val2 _ 1024 rfl]
  show 1024 * a.val + p.val = a.val * 1024 + p.val
  omega

/-- The result at a position whose distances are all below the top extended real. -/
theorem result_apply (x : FVec Ideal S64x1024x32 .f32) (v : FVec Ideal S512x32 .f32) (a : Fin 64) (p : Fin 1024)
    (h : ∀ k, distance (fun d => x (ix3 a p d)) (fun d => v (ix2 k d)) ≠ ⊤) :
    RefRun.result x v (ix2 a p)
      = BitVec.ofNat 32 (firstLeast fun k => distance (fun d => x (ix3 a p d)) (fun d => v (ix2 k d))).val := by
  unfold RefRun.result
  rw [unflat_apply, argmin_apply _ _ fun k => by rw [dist_apply]; exact h k]
  simp only [dist_apply]

end Cert.ReferenceIdeal.RefValue

end
-- ==== Proof.Equation.lean ====
/-
  The equation: over arguments whose entries are real numbers the kernel's result array is the reference's. At a position
  the kernel takes the first codebook vector of least score and the reference the first of least distance; scores and
  distances order the codebook vectors alike.
-/
module

public import proofs.«01_k».proof.Proof.KernelValue
public import proofs.«01_k».proof.Proof.RefValue

@[expose] public section

set_option maxRecDepth 16384

noncomputable section

namespace Cert.Equation

open Idealize.ShloMosaic
open Cert.KernelIdeal Cert.KernelIdeal.Gen Cert.Least Cert.Distance

/-- The 32-bit word of the constant minus two is minus two. -/
theorem neg_two_bits : Ideal.ofBits .f32 0xC0000000#32 = (-2 : EReal) := by
  simp [Ideal.ofBits, Ideal.ieee, -EReal.coe_mul]; norm_num
  rfl

/-- The kernel's score at a position and a codebook vector, over the prepared codebook, is the score of the two vectors. -/
theorem block_score (v : FVec Ideal S512x32 .f32) (x : Fin 32 → EReal) (k : Fin 512) :
    Block.score (KernelValue.scaled v) (KernelValue.norms v) x k = score x fun d => v (ix2 k d) := by
  pointwise [Block.score, KernelValue.scaled, KernelValue.norms, score]
  simp only [neg_two_bits]

/-- The kernel's result at a position: the index of the first codebook vector of least score. -/
theorem kernel_apply (x : FVec Ideal S64x1024x32 .f32) (v : FVec Ideal S512x32 .f32) (a : Fin 64) (p : Fin 1024) :
    KernelValue.result x v (ix2 a p)
      = BitVec.ofNat 32 (firstLeast fun k => score (fun d => x (ix3 a p d)) fun d => v (ix2 k d)).val :=
  congrArg (fun f => BitVec.ofNat 32 (firstLeast f).val) (funext fun k => block_score v (fun d => x (ix3 a p d)) k)

/-- Over real entries the two results are one array. -/
theorem result_eq (x : FVec Ideal S64x1024x32 .f32) (v : FVec Ideal S512x32 .f32)
    (hx : ∀ i, ∃ r : ℝ, x i = (r : EReal)) (hv : ∀ i, ∃ r : ℝ, v i = (r : EReal)) :
    KernelValue.result x v = Cert.ReferenceIdeal.RefRun.result x v := by
  choose X hX using hx
  choose W hW using hv
  funext j
  idx_vars j
  rw [kernel_apply, Cert.ReferenceIdeal.RefValue.result_apply x v j0 j1 fun k => by simp only [hX, hW]; exact distance_ne_top _ _]
  refine congrArg (fun k : Fin 512 => BitVec.ofNat 32 k.val) (firstLeast_congr fun k k' => ?_)
  simp only [hX, hW]
  exact score_lt_iff _ _ _

end Cert.Equation

end
-- ==== Proof.lean ====
/-
  The certificate's claims, assembled. The frames of the kernel's two programs are the generated ones; the reference's
  frames and the two results come from the runs; the equation of the results is `Cert.Equation.result_eq`, over the finite
  arguments the precondition grants.
-/
module

public import proofs.«01_k».proof.Proof.Gen.KernelIdeal.Value
public import proofs.«01_k».proof.Proof.Equation
public import proofs.«01_k».proof.Proof.Finite
public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unique_nearest
public import Idealize.ShloMosaic.Adequacy
public import Idealize.ShloMosaic.Init

@[expose] public section

noncomputable section

namespace Cert.Proof

open Idealize.ShloMosaic Idealize.SL.Sem Cert.Kernel

/-- From any memory every execution of the reference terminates, its arguments end unchanged, and every counter ends at
    zero. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1))
        ∧ r.2.sem = fun _ => 0) :=
  (θ_run _ _ _).mono (fun r h => ⟨fun c => ⟨(h c).2.1, (h c).2.2⟩, Idealize.ShloMosaic.sem_eq_zero_of_no_sems (by decide) r.2⟩)
    (ReferenceIdeal.RefRun.run m ρ)

/-- From memories that agree on the arguments, where the precondition holds, the kernel and the reference end with one
    result array and unchanged arguments. -/
theorem results_agree : Cert.algebraic_KernelIdeal_ReferenceIdeal (hKernelIdeal := Cert.KernelIdeal.Gen.facts)
    (hReferenceIdeal := Cert.ReferenceIdeal.Gen.facts) (hPre_unique_nearest := Cert.Pre_unique_nearest.Gen.facts) := by
  intro m g m' g' pre agree
  refine ⟨fun c => KernelIdeal.KernelValue.result (m ((c.tc : Thread KernelIdeal.nD KernelIdeal.τ).loc KernelIdeal.main_arg0))
      (m ((c.tc : Thread KernelIdeal.nD KernelIdeal.τ).loc KernelIdeal.main_arg1)),
    KernelIdeal.KernelValue.run m g, (θ_run _ _ _).mono (fun r h c => ⟨(h c).1.trans ?_, (h c).2⟩) (ReferenceIdeal.RefRun.run m' g')⟩
  obtain ⟨hx, hv⟩ := Cert.Finite.finite_of_pre _ _ (pre c)
  rw [(agree c).1, (agree c).2]
  exact (Cert.Equation.result_eq _ _ hx hv).symm

/-- Every claim of the certificate. -/
theorem claim : Cert.Claim := ⟨Cert.Kernel.Gen.facts, Cert.KernelIdeal.Gen.facts, Cert.ReferenceIdeal.Gen.facts, Cert.Pre_unique_nearest.Gen.facts,
  fun m ρ _ => Cert.Kernel.Gen.frame m ρ,
  fun m ρ _ => Cert.Kernel.Gen.frame m ρ,
  fun m ρ _ => Cert.KernelIdeal.Gen.frame m ρ,
  fun m ρ _ => reference_frame m ρ,
  fun m ρ _ => reference_frame m ρ,
  trivial,
  results_agree⟩

end Cert.Proof

end
